-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x2048 : Shape := ⟨3, ![6, 3072, 2048]⟩
abbrev S2048x4608 : Shape := ⟨2, ![2048, 4608]⟩
abbrev S4608 : Shape := ⟨1, ![4608]⟩
abbrev S6x3072x4608 : Shape := ⟨3, ![6, 3072, 4608]⟩
abbrev S18432x2048 : Shape := ⟨2, ![18432, 2048]⟩
abbrev S1x4608 : Shape := ⟨2, ![1, 4608]⟩
abbrev S18432x4608 : Shape := ⟨2, ![18432, 4608]⟩
abbrev S18432x1 : Shape := ⟨2, ![18432, 1]⟩
abbrev S256x2048 : Shape := ⟨2, ![256, 2048]⟩
abbrev S256x4608 : Shape := ⟨2, ![256, 4608]⟩
abbrev S256x1 : Shape := ⟨2, ![256, 1]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S6x3072x2048, .bf16⟩
  | .hbm, ⟨1, _⟩ => ⟨S2048x4608, .fp8e4m3⟩
  | .hbm, ⟨2, _⟩ => ⟨S4608, .f32⟩
  | .hbm, ⟨3, _⟩ => ⟨S6x3072x4608, .bf16⟩
  | .hbm, ⟨4, _⟩ => ⟨S18432x2048, .bf16⟩
  | .hbm, ⟨5, _⟩ => ⟨S1x4608, .f32⟩
  | .hbm, ⟨6, _⟩ => ⟨S18432x4608, .bf16⟩
  | .hbm, ⟨7, _⟩ => ⟨S18432x4608, .bf16⟩
  | .hbm, ⟨8, _⟩ => ⟨S18432x2048, .fp8e4m3⟩
  | .hbm, ⟨9, _⟩ => ⟨S18432x1, .f32⟩
  | .local _ .vmem, ⟨0, _⟩ => ⟨S256x2048, .bf16⟩
  | .local _ .vmem, ⟨1, _⟩ => ⟨S256x2048, .bf16⟩
  | .local _ .vmem, ⟨2, _⟩ => ⟨S2048x4608, .fp8e4m3⟩
  | .local _ .vmem, ⟨3, _⟩ => ⟨S1x4608, .f32⟩
  | .local _ .vmem, ⟨4, _⟩ => ⟨S256x4608, .bf16⟩
  | .local _ .vmem, ⟨5, _⟩ => ⟨S256x4608, .bf16⟩
  | .local _ .vmem, ⟨6, _⟩ => ⟨S256x4608, .bf16⟩
  | .local _ .vmem, ⟨7, _⟩ => ⟨S256x4608, .bf16⟩
  | .local _ .vmem, ⟨8, _⟩ => ⟨S256x2048, .fp8e4m3⟩
  | .local _ .vmem, ⟨9, _⟩ => ⟨S256x2048, .fp8e4m3⟩
  | .local _ .vmem, ⟨10, _⟩ => ⟨S256x1, .f32⟩
  | .local _ .vmem, ⟨11, _⟩ => ⟨S256x1, .f32⟩
  | _, _ => ⟨S6x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x3072x2048 : Shape := ⟨3, ![6, 3072, 2048]⟩
abbrev S2048x4608 : Shape := ⟨2, ![2048, 4608]⟩
abbrev S4608 : Shape := ⟨1, ![4608]⟩
abbrev S6x3072x4608 : Shape := ⟨3, ![6, 3072, 4608]⟩
abbrev S18432x2048 : Shape := ⟨2, ![18432, 2048]⟩
abbrev S1x4608 : Shape := ⟨2, ![1, 4608]⟩
abbrev S18432x4608 : Shape := ⟨2, ![18432, 4608]⟩
abbrev S18432x1 : Shape := ⟨2, ![18432, 1]⟩
abbrev S18432 : Shape := ⟨1, ![18432]⟩

abbrev nBuf : Space → Nat
  | .hbm => 10
  | .vmem => 7
  | .smem => 0
  | _ => 0

abbrev bufTy : (tb : Table) → Fin (tcTables nBuf tb) → BufTy
  | .hbm, ⟨0, _⟩ => ⟨S6x3072x2048, .bf16⟩
  | .hbm, ⟨1, _⟩ => ⟨S2048x4608, .fp8e4m3⟩
  | .hbm, ⟨2, _⟩ => ⟨S4608, .f32⟩
  | .hbm, ⟨3, _⟩ => ⟨S6x3072x4608, .bf16⟩
  | .hbm, ⟨4, _⟩ => ⟨S18432x2048, .bf16⟩
  | .hbm, ⟨5, _⟩ => ⟨S1x4608, .f32⟩
  | .hbm, ⟨6, _⟩ => ⟨S18432x4608, .bf16⟩
  | .hbm, ⟨7, _⟩ => ⟨S18432x4608, .bf16⟩
  | .hbm, ⟨8, _⟩ => ⟨S18432x2048, .fp8e4m3⟩
  | .hbm, ⟨9, _⟩ => ⟨S18432x1, .f32⟩
  | .local _ .vmem, ⟨0, _⟩ => ⟨S18432x2048, .bf16⟩
  | .local _ .vmem, ⟨1, _⟩ => ⟨S2048x4608, .fp8e4m3⟩
  | .local _ .vmem, ⟨2, _⟩ => ⟨S1x4608, .f32⟩
  | .local _ .vmem, ⟨3, _⟩ => ⟨S18432x4608, .bf16⟩
  | .local _ .vmem, ⟨4, _⟩ => ⟨S18432x4608, .bf16⟩
  | .local _ .vmem, ⟨5, _⟩ => ⟨S18432x2048, .fp8e4m3⟩
  | .local _ .vmem, ⟨6, _⟩ => ⟨S18432x1, .f32⟩
  | _, _ => ⟨S6x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S18432x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  THE SCALE OF ONE ROW, in extended reals. The kernel finds the exponent of `a = amax / 448` by eight comparisons against
  powers of two built from bit patterns, and builds `2^e` and `2^-e` as bit patterns; the reference takes
  `floor (log a / log 2) + 1` and `exp2`. This module proves the two give the same scale and the same inverse scale for
  EVERY extended real `amax`.
-/
module

public import Idealize.ShloMosaic.PureOps.Ideal.Laws
public import Idealize.ShloMosaic.Lib.ValueIdxCore
public import Mathlib.Analysis.SpecialFunctions.Log.Basic
public import Mathlib.Analysis.SpecialFunctions.Pow.Real

@[expose] public section

noncomputable section

namespace Cert.Scale

open Idealize.ShloMosaic

/-! ## The two spellings -/

/-- The bit pattern the kernel builds for `2^e`: the biased exponent, held between 0 and 255, in the exponent field. -/
def powWord (e : BitVec 32) : BitVec 32 :=
  IntOp.shli .vector (IntOp.minsi 255#32 (IntOp.maxsi 0#32 (IntOp.addi e 127#32))) 23#32

/-- What that pattern denotes. -/
def pow (e : BitVec 32) : EReal := Ideal.ofBits .f32 (powWord e)

/-- One comparison of the kernel's search: add `d` to `e` where `a` is at least `2^(e + p)`. -/
def probe (a : EReal) (e d p : BitVec 32) : BitVec 32 :=
  Scalar.select (Ideal.cmp .oge a (pow (IntOp.addi e p))) (IntOp.addi e d) e

/-- The first two comparisons. -/
def search2 (a : EReal) : BitVec 32 := probe a (probe a 4294967171#32 128#32 127#32) 64#32 63#32
/-- The first five comparisons. -/
def search5 (a : EReal) : BitVec 32 :=
  probe a (probe a (probe a (search2 a) 32#32 31#32) 16#32 15#32) 8#32 7#32
/-- All eight comparisons. -/
def search (a : EReal) : BitVec 32 :=
  probe a (probe a (probe a (search5 a) 4#32 3#32) 2#32 1#32) 1#32 0#32

/-- Whether `a` is at least the smallest normal number and below infinity. -/
def inRange (a : EReal) : BitVec 1 :=
  IntOp.andi (Ideal.cmp .oge a (Ideal.ofBits .f32 0x00800000#32)) (Ideal.cmp .olt a (Ideal.ofBits .f32 0x7F800000#32))

/-- The kernel's exponent of a row whose greatest magnitude is `amax`, with `a` the scaled magnitude. -/
def kernelExp (amax a : EReal) : BitVec 32 :=
  Scalar.select (Ideal.cmp .oeq amax (Ideal.ofBits .f32 0x00000000#32)) 0#32 (Scalar.select (inRange a) (search a) 0#32)

/-- The reference's exponent. -/
def refExp (a : EReal) : EReal :=
  Scalar.select (inRange a)
    (Ideal.liftRound Int.floor (Ideal.div (Ideal.log a) (Ideal.log (Ideal.ofBits .f32 0x40000000#32)))
      + Ideal.ofBits .f32 0x3F800000#32)
    (Ideal.ofBits .f32 0x00000000#32)

/-- The reference's power of two: zero below the normal range, infinity above it. -/
def refPow (e : EReal) : EReal :=
  Scalar.select (Ideal.cmp .olt e (Ideal.ofBits .f32 0xC2FC0000#32)) (Ideal.ofBits .f32 0x00000000#32)
    (Scalar.select (Ideal.cmp .ogt e (Ideal.ofBits .f32 0x42FE0000#32)) (Ideal.ofBits .f32 0x7F800000#32) (Ideal.exp2 e))

/-! ## Powers of two -/

/-- `2^n` in the format: zero below the normal range, infinity above it. -/
def two (n : ℤ) : EReal := if n < -126 then 0 else if 127 < n then ⊤ else (((2 : ℝ) ^ n : ℝ) : EReal)

/-- The kernel's pattern at an integer between −256 and 255: the held biased exponent, shifted. -/
theorem powWord_table : ∀ k : Fin 512,
    powWord (BitVec.ofInt 32 ((k.val : ℤ) - 256)) = BitVec.ofNat 32 (min 255 (k.val - 129) * 2 ^ 23) := by
  decide +kernel

/-- The three fields of a pattern that is an exponent and nothing else. -/
theorem fields : ∀ j : Fin 256,
    ((BitVec.ofNat 32 (j.val * 2 ^ 23)).extractLsb' 31 1 == 1#1) = false
      ∧ ((BitVec.ofNat 32 (j.val * 2 ^ 23)).extractLsb' 23 8).toNat = j.val
      ∧ ((BitVec.ofNat 32 (j.val * 2 ^ 23)).extractLsb' 0 23).toNat = 0 := by
  decide +kernel

/-- What such a pattern denotes. -/
theorem ofBits_exponent (j : ℕ) (hj : j < 256) :
    Ideal.ofBits .f32 (BitVec.ofNat 32 (j * 2 ^ 23)) = two ((j : ℤ) - 127) := by
  obtain ⟨h1, h2, h3⟩ := fields ⟨j, hj⟩
  dsimp only at h1 h2 h3
  show Ideal.ieee 8 23 (BitVec.ofNat 32 (j * 2 ^ 23)) = _
  unfold Ideal.ieee
  simp only [show 8 + 23 = 31 from rfl]
  rw [h1, h2, h3]
  unfold two
  by_cases h255 : j = 255
  · subst h255; norm_num
  · by_cases h0 : j = 0
    · subst h0; norm_num
    · have c1 : ¬ j = 2 ^ 8 - 1 := by omega
      have c2 : ¬ (j : ℤ) - 127 < -126 := by omega
      have c3 : ¬ 127 < (j : ℤ) - 127 := by omega
      rw [if_neg c1, if_neg h0, if_neg c2, if_neg c3]
      congr 1
      have : ((2 ^ 23 + 0 : ℕ) : ℝ) = (2 : ℝ) ^ (23 : ℤ) := by norm_num
      rw [this]
      simp only [Bool.false_eq_true, ↓reduceIte, one_mul]
      rw [← zpow_add₀ (by norm_num : (2 : ℝ) ≠ 0)]
      congr 1
      norm_num

/-- The kernel's power of two at an integer. -/
theorem pow_ofInt (n : ℤ) (h1 : -256 ≤ n) (h2 : n ≤ 255) : pow (BitVec.ofInt 32 n) = two n := by
  obtain ⟨k, hk⟩ : ∃ k : ℕ, n = (k : ℤ) - 256 := ⟨(n + 256).toNat, by omega⟩
  have hk' : k < 512 := by omega
  have ht := powWord_table ⟨k, hk'⟩
  unfold pow
  dsimp only at ht
  rw [hk, ht, ofBits_exponent _ (by omega)]
  unfold two
  by_cases ha : k < 130
  · rw [if_pos (by omega), if_pos (by omega)]
  · by_cases hb : 383 < k
    · rw [if_neg (by omega), if_pos (by omega), if_neg (by omega), if_pos (by omega)]
    · rw [if_neg (by omega), if_neg (by omega), if_neg (by omega), if_neg (by omega)]
      rw [show ((min 255 (k - 129) : ℕ) : ℤ) - 127 = (k : ℤ) - 256 by omega]

/-! ## The constants -/

theorem lit_min : Ideal.ofBits .f32 0x00800000#32 = (((2 : ℝ) ^ (-126 : ℤ) : ℝ) : EReal) := ofBits_exponent 1 (by omega)
theorem lit_inf : Ideal.ofBits .f32 0x7F800000#32 = (⊤ : EReal) := ofBits_exponent 255 (by omega)
theorem lit_two : Ideal.ofBits .f32 0x40000000#32 = ((2 : ℝ) : EReal) :=
  (ofBits_exponent 128 (by omega)).trans (by unfold two; norm_num)
theorem lit_one : Ideal.ofBits .f32 0x3F800000#32 = ((1 : ℝ) : EReal) :=
  (ofBits_exponent 127 (by omega)).trans (by unfold two; norm_num)
theorem lit_lo : Ideal.ofBits .f32 0xC2FC0000#32 = ((-126 : ℝ) : EReal) := by
  show Ideal.ieee 8 23 0xC2FC0000#32 = _
  unfold Ideal.ieee
  simp only [show ((0xC2FC0000#32).extractLsb' (8 + 23) 1 == 1#1) = true by decide,
    show ((0xC2FC0000#32).extractLsb' 23 8).toNat = 133 by decide,
    show ((0xC2FC0000#32).extractLsb' 0 23).toNat = 0x7C0000 by decide]
  rw [if_neg (by omega), if_neg (by omega)]
  congr 1
  norm_num [zpow_neg]
theorem lit_hi : Ideal.ofBits .f32 0x42FE0000#32 = ((127 : ℝ) : EReal) := by
  show Ideal.ieee 8 23 0x42FE0000#32 = _
  unfold Ideal.ieee
  simp only [show ((0x42FE0000#32).extractLsb' (8 + 23) 1 == 1#1) = false by decide,
    show ((0x42FE0000#32).extractLsb' 23 8).toNat = 133 by decide,
    show ((0x42FE0000#32).extractLsb' 0 23).toNat = 0x7E0000 by decide]
  rw [if_neg (by omega), if_neg (by omega)]
  congr 1
  norm_num [zpow_neg]

/-- The reference's power of two at an integer. -/
theorem refPow_int (n : ℤ) : refPow (((n : ℝ) : EReal)) = two n := by
  unfold refPow two
  rw [lit_lo, lit_hi, lit_inf]
  simp only [Ideal.cmp, Scalar.select, Ideal.ofBits_zero_f32, EReal.coe_lt_coe_iff, Ideal.exp2_coe]
  have e1 : ((n : ℝ) < -126) ↔ n < -126 := by exact_mod_cast Iff.rfl
  have e2 : ((127 : ℝ) < n) ↔ 127 < n := by exact_mod_cast Iff.rfl
  simp only [e1, e2]
  by_cases h1 : n < -126
  · simp [h1]
  · by_cases h2 : 127 < n
    · simp [h1, h2]
    · simp only [h1, h2]
      simp only [decide_false, BitVec.ofBool_false]
      rw [if_neg (by decide), if_neg (by decide), if_neg (by decide), if_neg (by decide)]
      exact congrArg _ (Real.rpow_intCast 2 n)

/-! ## The search -/

/-- One comparison of the search, where the comparison with `2^n` is the comparison of `n` with `M`: from `x ≤ M ≤ x + 2d − 1`
    to the same bounds with half the width. -/
theorem probe_step {a : EReal} {M : ℤ} (hM : M ≤ 128)
    (H : ∀ n : ℤ, -126 ≤ n → n ≤ 255 → (pow (BitVec.ofInt 32 n) ≤ a ↔ n < M))
    {e : BitVec 32} (d : ℤ) (hd : 1 ≤ d) (hd' : d ≤ 128)
    (h : ∃ x : ℤ, e = BitVec.ofInt 32 x ∧ -125 ≤ x ∧ x ≤ M ∧ M ≤ x + 2 * d - 1) :
    ∃ y : ℤ, probe a e (BitVec.ofInt 32 d) (BitVec.ofInt 32 (d - 1)) = BitVec.ofInt 32 y
      ∧ -125 ≤ y ∧ y ≤ M ∧ M ≤ y + d - 1 := by
  obtain ⟨x, rfl, hx, hxM, hMx⟩ := h
  have key := H (x + (d - 1)) (by omega) (by omega)
  unfold probe IntOp.addi Ideal.cmp Scalar.select
  rw [← BitVec.ofInt_add, ← BitVec.ofInt_add]
  by_cases hlt : x + (d - 1) < M
  · refine ⟨x + d, ?_, by omega, by omega, by omega⟩
    simp only [key.mpr hlt]
    simp
  · refine ⟨x, ?_, by omega, by omega, by omega⟩
    simp only [mt key.mp hlt]
    simp

/-- The eight comparisons find `M`. -/
theorem search_eq {a : EReal} {M : ℤ} (h0 : -125 ≤ M) (hM : M ≤ 128)
    (H : ∀ n : ℤ, -126 ≤ n → n ≤ 255 → (pow (BitVec.ofInt 32 n) ≤ a ↔ n < M)) :
    search a = BitVec.ofInt 32 M := by
  have s1 := probe_step hM H 128 (by omega) (by omega) (e := 4294967171#32) ⟨-125, by decide, by omega, by omega, by omega⟩
  have s2 := probe_step hM H 64 (by omega) (by omega) (by simpa using s1)
  have s3 := probe_step hM H 32 (by omega) (by omega) (by simpa using s2)
  have s4 := probe_step hM H 16 (by omega) (by omega) (by simpa using s3)
  have s5 := probe_step hM H 8 (by omega) (by omega) (by simpa using s4)
  have s6 := probe_step hM H 4 (by omega) (by omega) (by simpa using s5)
  have s7 := probe_step hM H 2 (by omega) (by omega) (by simpa using s6)
  have s8 := probe_step hM H 1 (by omega) (by omega) (by simpa using s7)
  obtain ⟨y, hy, -, h1, h2⟩ := s8
  have : y = M := by omega
  subst this
  exact hy

/-! ## The two exponents -/

/-- In range, `a` is a real at least `2^-126`; out of range both exponents are zero. -/
theorem inRange_iff (a : EReal) :
    inRange a = 1#1 ↔ ∃ r : ℝ, a = (r : EReal) ∧ (2 : ℝ) ^ (-126 : ℤ) ≤ r := by
  unfold inRange IntOp.andi Ideal.cmp
  rw [lit_min, lit_inf]
  induction a using EReal.rec with
  | bot => simp
  | top => simp
  | coe r =>
    simp only [EReal.coe_le_coe_iff, EReal.coe_lt_top, decide_true, EReal.coe_eq_coe_iff]
    constructor
    · intro h
      refine ⟨r, rfl, ?_⟩
      by_contra hn
      rw [decide_eq_false hn] at h
      exact absurd h (by decide)
    · rintro ⟨s, rfl, hs⟩
      rw [decide_eq_true hs]
      rfl

/-- The exponent of a positive real `r`: the integers below it are those whose power of two is at most `r`. -/
theorem lt_floor_log (r : ℝ) (hr : 0 < r) (n : ℤ) :
    n < ⌊Real.log r * (1 / Real.log 2)⌋ + 1 ↔ (2 : ℝ) ^ n ≤ r := by
  have h2 : 0 < Real.log 2 := Real.log_pos (by norm_num)
  rw [Int.lt_add_one_iff, Int.le_floor, mul_one_div, le_div_iff₀ h2, ← Real.log_zpow,
    Real.log_le_log_iff (by positivity) hr]

/-- In range, both exponents are one integer up to the hold at 128. -/
theorem exps (amax a : EReal) (ha : amax = 0 → a = 0) :
    ∃ E M : ℤ, refExp a = (((E : ℤ) : ℝ) : EReal) ∧ kernelExp amax a = BitVec.ofInt 32 M
      ∧ -125 ≤ E ∧ M = min E 128 := by
  by_cases hin : inRange a = 1#1
  · obtain ⟨r, rfl, hr⟩ := (inRange_iff a).mp hin
    have hr0 : 0 < r := lt_of_lt_of_le (by positivity) hr
    have hne : amax ≠ 0 := fun h => by
      have := ha h
      rw [EReal.coe_eq_zero] at this
      exact hr0.ne' this
    have h2 : Real.log 2 ≠ 0 := (Real.log_pos (by norm_num)).ne'
    refine ⟨⌊Real.log r * (1 / Real.log 2)⌋ + 1, _, ?_, ?_, ?_, rfl⟩
    · unfold refExp
      rw [hin, ValueIdx.select_one, lit_two, lit_one, Ideal.log_coe, Ideal.log_coe, if_neg (not_le.mpr hr0),
        if_neg (by norm_num), Ideal.div_coe h2, ← EReal.coe_mul, Ideal.liftRound_coe, ← EReal.coe_add]
      push_cast
      rfl
    · unfold kernelExp
      rw [hin, ValueIdx.select_one, Ideal.ofBits_zero_f32]
      have : Ideal.cmp .oeq amax 0 = 0#1 := by simp [Ideal.cmp, hne]
      rw [this, ValueIdx.select_zero]
      have hE : -125 ≤ ⌊Real.log r * (1 / Real.log 2)⌋ + 1 := by
        have := (lt_floor_log r hr0 (-126)).mpr hr
        omega
      refine search_eq (by omega) (by omega) fun n h1 h2 => ?_
      rw [pow_ofInt n (by omega) h2]
      unfold two
      rw [if_neg (by omega)]
      by_cases hn : 127 < n
      · rw [if_pos hn]
        exact ⟨fun h => absurd h (by simp), fun h => by omega⟩
      · rw [if_neg hn, EReal.coe_le_coe_iff, ← lt_floor_log r hr0]
        omega
    · have := (lt_floor_log r hr0 (-126)).mpr hr
      omega
  · have hz : inRange a = 0#1 := ValueIdx.eq_zero_of_ne_one hin
    refine ⟨0, 0, ?_, ?_, by omega, by omega⟩
    · unfold refExp
      rw [hz, ValueIdx.select_zero, Ideal.ofBits_zero_f32]
      simp
    · unfold kernelExp
      rw [hz, ValueIdx.select_zero]
      unfold Scalar.select
      split <;> rfl

/-- THE SCALE: the kernel's `2^e` is the reference's. -/
theorem scale_eq (amax a : EReal) (ha : amax = 0 → a = 0) : pow (kernelExp amax a) = refPow (refExp a) := by
  obtain ⟨E, M, h1, h2, h3, h4⟩ := exps amax a ha
  rw [h1, h2, pow_ofInt M (by omega) (by omega), refPow_int]
  unfold two
  by_cases h : 127 < E
  · rw [if_neg (by omega), if_pos (by omega), if_neg (by omega), if_pos h]
  · rw [show M = E by omega]

/-- THE INVERSE SCALE: the kernel's `2^-e` is the reference's. -/
theorem inv_eq (amax a : EReal) (ha : amax = 0 → a = 0) :
    pow (IntOp.subi 0#32 (kernelExp amax a)) = refPow (Ideal.ofBits .f32 0x00000000#32 - refExp a) := by
  obtain ⟨E, M, h1, h2, h3, h4⟩ := exps amax a ha
  have e1 : IntOp.subi 0#32 (BitVec.ofInt 32 M) = BitVec.ofInt 32 (-M) := by
    unfold IntOp.subi
    rw [BitVec.ofInt_neg, BitVec.zero_sub]
  have e2 : (0 : EReal) - (((E : ℤ) : ℝ) : EReal) = (((-E : ℤ) : ℝ) : EReal) := by
    rw [zero_sub, ← EReal.coe_neg, Int.cast_neg]
  rw [h1, h2, e1, Ideal.ofBits_zero_f32, e2, pow_ofInt _ (by omega) (by omega), refPow_int]
  unfold two
  by_cases h : 126 < E
  · rw [if_pos (by omega), if_pos (by omega)]
  · rw [show M = E by omega]

end Cert.Scale

end
-- ==== Proof.Rows.lean ====
/-
  THE PROBLEM'S ROWS, in extended reals: one row's greatest magnitude, its scale, its codes, and one element of the
  product. Both programs are read against these functions; the scale is stated the reference's way.
-/
module

public import proofs.«01_k».proof.Proof.Scale
public import Idealize.ShloMosaic.Lib.MatmulPlain
public import Idealize.ShloMosaic.Lib.ValueIdx
public import Idealize.ShloMosaic.Lib.ValueLayoutCasts
public import Idealize.ShloMosaic.Lib.Pipeline.Value

@[expose] public section

noncomputable section

namespace Cert.Rows

open Idealize.ShloMosaic Idealize.ShloMosaic.ValueIdx
open scoped BigOperators

/-- The greatest magnitude of a row. -/
def rowMax {K : ℕ} (x : Fin K → EReal) : EReal :=
  (Finset.univ : Finset (Fin K)).fold max (Ideal.ofBits .f32 0xFF800000#32) (fun k => max (x k) (-x k))

/-- It, divided by the greatest code (the multiplication by the reciprocal's pattern). -/
def scaled {K : ℕ} (x : Fin K → EReal) : EReal := rowMax x * Ideal.ofBits .f32 0x3B124925#32

/-- The row's scale. -/
def scaleAt {K : ℕ} (x : Fin K → EReal) : EReal := Scale.refPow (Scale.refExp (scaled x))

/-- The row's inverse scale. -/
def invAt {K : ℕ} (x : Fin K → EReal) : EReal :=
  Scale.refPow (Ideal.ofBits .f32 0x00000000#32 - Scale.refExp (scaled x))

/-- One code of the row. -/
def codeAt {K : ℕ} (x : Fin K → EReal) (k : Fin K) : EReal :=
  min (Ideal.ofBits .f32 0x43E00000#32) (max (Ideal.ofBits .f32 0xC3E00000#32) (x k * invAt x))

/-- One element of the first result: the row's codes against a column of weights, scaled, onto the residual. -/
def outAt {K : ℕ} (x w : Fin K → EReal) (ws r : EReal) : EReal :=
  (Ideal.ofBits .f32 0x00000000#32 + ∑ k, codeAt x k * w k) * scaleAt x * ws + r

/-- The row maximum of a matrix, kept as a column, at a row. -/
theorem rowMax_apply {M K : ℕ} (v : FVec Ideal ⟨2, ![M, K]⟩ .f32)
    (h : (⟨2, ![M, K]⟩ : Shape).Reduces [1] ⟨1, ![M]⟩) (hφ : FKind.Formats .f32)
    (hacc : (0xFF800000#32 : BitVec 32) = FKind.maximumf.neutral .f32 hφ)
    (hc : (⟨1, ![M]⟩ : Shape).ShapeCasts ⟨2, ![M, 1]⟩) (i : Fin M) (u : Fin 1) :
    shapeCast ⟨2, ![M, 1]⟩ (multiReduction .maximumf [1] ⟨1, ![M]⟩ (absf v) 0xFF800000#32 h hφ hacc) hc (ix2 i u)
      = rowMax fun k => v (ix2 i k) := by
  rw [shapeCast_a_a1_apply, Ideal.multiReduction_maximumf_single]
  unfold rowMax
  refine congrArg (Finset.fold max _ · _) (funext fun k => ?_)
  have e : h.lift (ix1 i) k = ix2 i k := by
    funext a; apply Fin.ext
    match a with
    | ⟨0, _⟩ => rfl
    | ⟨1, _⟩ => rfl
  show max (v (h.lift (ix1 i) k)) (-v (h.lift (ix1 i) k)) = _
  rw [e]
  rfl

/-- A column broadcast along the rows, at an index. -/
theorem col_apply {M N : ℕ} {α : Type} (hM : M ≠ 1) (v : (⟨2, ![M, 1]⟩ : Shape).Idx → α)
    (h : (⟨2, ![M, 1]⟩ : Shape).Broadcasts ⟨2, ![M, N]⟩) (i : Fin M) (j : Fin N) :
    broadcastTo ⟨2, ![M, N]⟩ v h (ix2 i j) = v (ix2 i 0) :=
  broadcastTo_apply v h _ _ fun a => by
    match a with
    | ⟨0, _⟩ => exact (if_neg hM).symm
    | ⟨1, _⟩ => exact (if_pos rfl).symm

/-- A row broadcast down the columns, at an index. -/
theorem row_apply {M N : ℕ} {α : Type} (hN : N ≠ 1) (v : (⟨2, ![1, N]⟩ : Shape).Idx → α)
    (h : (⟨2, ![1, N]⟩ : Shape).Broadcasts ⟨2, ![M, N]⟩) (i : Fin M) (j : Fin N) :
    broadcastTo ⟨2, ![M, N]⟩ v h (ix2 i j) = v (ix2 0 j) :=
  broadcastTo_apply v h _ _ fun a => by
    match a with
    | ⟨0, _⟩ => exact (if_pos rfl).symm
    | ⟨1, _⟩ => exact (if_neg hN).symm

/-- The kernel's scale of a row is the row's scale. -/
theorem scaleAt_eq {K : ℕ} (x : Fin K → EReal) : Scale.pow (Scale.kernelExp (rowMax x) (scaled x)) = scaleAt x :=
  Scale.scale_eq _ _ fun h => by unfold scaled; rw [h, zero_mul]

/-- The kernel's inverse scale of a row is the row's inverse scale. -/
theorem invAt_eq {K : ℕ} (x : Fin K → EReal) :
    Scale.pow (IntOp.subi 0#32 (Scale.kernelExp (rowMax x) (scaled x))) = invAt x :=
  Scale.inv_eq _ _ fun h => by unfold scaled; rw [h, zero_mul]

end Cert.Rows

end
-- ==== Proof.Whole.lean ====
/-
  THE THREE RESULTS AS WHOLE ARRAYS, by the row functions of Rows.lean: what both programs are shown to leave.
-/
module

public import proofs.«01_k».proof.Proof.Rows

@[expose] public section

noncomputable section

namespace Cert.Whole

open Idealize.ShloMosaic Idealize.ShloMosaic.ValueIdx

variable (x : (⟨2, ![18432, 2048]⟩ : Shape).Idx → EReal) (w : (⟨2, ![2048, 4608]⟩ : Shape).Idx → EReal)
  (ws : (⟨2, ![1, 4608]⟩ : Shape).Idx → EReal) (r : (⟨2, ![18432, 4608]⟩ : Shape).Idx → EReal)

/-- The first result. -/
def out (j : (⟨2, ![18432, 4608]⟩ : Shape).Idx) : EReal :=
  Rows.outAt (fun k => x (ix2 (j 0) k)) (fun k => w (ix2 k (j 1))) (ws (ix2 0 (j 1))) (r (ix2 (j 0) (j 1)))

/-- The second result: the codes. -/
def codes (j : (⟨2, ![18432, 2048]⟩ : Shape).Idx) : EReal := Rows.codeAt (fun k => x (ix2 (j 0) k)) (j 1)

/-- The third result: the scales. -/
def scales (j : (⟨2, ![18432, 1]⟩ : Shape).Idx) : EReal := Rows.scaleAt fun k => x (ix2 (j 0) k)

end Cert.Whole

end
-- ==== Proof.Vectors.lean ====
/-
  THE TWO PROGRAMS' VECTOR SPELLINGS of the functions of Scale.lean, over arrays of any shape, and what they are at one
  index. Every statement is over arbitrary arrays, so that reading one at an index opens nothing of what the array holds.
-/
module

public import proofs.«01_k».proof.Proof.Scale
public import Idealize.ShloMosaic.PureOps

@[expose] public section

noncomputable section

namespace Cert.Vectors

open Idealize.ShloMosaic

variable {s : Shape}

/-- The kernel's powers of two: one bit pattern per exponent. -/
def vpow (e : IVec s 32) : FVec Ideal s .f32 :=
  bitcastToFloat .f32 (shli (minsi (broadcast s 255#32) (maxsi (broadcast s 0#32) (addi e (broadcast s 127#32))))
    (broadcast s 23#32))

/-- One comparison of the kernel's search. -/
def vprobe (a : FVec Ideal s .f32) (e : IVec s 32) (d p : BitVec 32) : IVec s 32 :=
  select (cmpf .oge a (vpow (addi e (broadcast s p)))) (addi e (broadcast s d)) e

theorem vprobe_apply (a : FVec Ideal s .f32) (e : IVec s 32) (d p : BitVec 32) (j : s.Idx) :
    vprobe a e d p j = Scale.probe (a j) (e j) d p := rfl

/-- The reference's exponents. -/
def vexp (a : FVec Ideal s .f32) : FVec Ideal s .f32 :=
  select (andi (cmpf .oge a (broadcast s (Scalar.ofBits .f32 0x00800000#32)))
      (cmpf .olt a (broadcast s (Scalar.ofBits .f32 0x7F800000#32))))
    (addf (floor (divf (log a) (broadcast s (Scalar.log (Scalar.ofBits .f32 0x40000000#32)))))
      (broadcast s (Scalar.ofBits .f32 0x3F800000#32)))
    (broadcast s (Scalar.ofBits .f32 0x00000000#32))

theorem vexp_apply (a : FVec Ideal s .f32) (j : s.Idx) : vexp a j = Scale.refExp (a j) := rfl

/-- The reference's powers of two. -/
def vpow2 (e : FVec Ideal s .f32) : FVec Ideal s .f32 :=
  select (cmpf .olt e (broadcast s (Scalar.ofBits .f32 0xC2FC0000#32))) (broadcast s (Scalar.ofBits .f32 0x00000000#32))
    (select (cmpf .ogt e (broadcast s (Scalar.ofBits .f32 0x42FE0000#32)))
      (broadcast s (Scalar.ofBits .f32 0x7F800000#32)) (exp2 e))

theorem vpow2_apply (e : FVec Ideal s .f32) (j : s.Idx) : vpow2 e j = Scale.refPow (e j) := rfl

/-- The reference's negated exponents. -/
def vneg (e : FVec Ideal s .f32) : FVec Ideal s .f32 := subf (broadcast s (Scalar.ofBits .f32 0x00000000#32)) e

theorem vneg_apply (e : FVec Ideal s .f32) (j : s.Idx) : vneg e j = Ideal.ofBits .f32 0x00000000#32 - e j := rfl

/-- An array times a constant. -/
def vscale (a : FVec Ideal s .f32) (b : BitVec 32) : FVec Ideal s .f32 := mulf a (broadcast s (Scalar.ofBits .f32 b))

theorem vscale_apply (a : FVec Ideal s .f32) (b : BitVec 32) (j : s.Idx) : vscale a b j = a j * Ideal.ofBits .f32 b := rfl

/-- Codes: a product held between the two greatest codes. -/
def vclip (x y : FVec Ideal s .f32) : FVec Ideal s .fp8e4m3 :=
  truncf .fp8e4m3 (minimumf (broadcast s (Scalar.ofBits .f32 0x43E00000#32))
    (maximumf (broadcast s (Scalar.ofBits .f32 0xC3E00000#32)) (mulf x y))) (by decide)

theorem vclip_apply (x y : FVec Ideal s .f32) (j : s.Idx) :
    vclip x y j = min (Ideal.ofBits .f32 0x43E00000#32) (max (Ideal.ofBits .f32 0xC3E00000#32) (x j * y j)) := rfl

/-- The finish: a product times two scales, onto a residual. -/
def vout (p s₁ s₂ : FVec Ideal s .f32) (r : FVec Ideal s .bf16) : FVec Ideal s .bf16 :=
  truncf .bf16 (addf (mulf (mulf p s₁) s₂) (extf .f32 r (by decide))) (by decide)

theorem vout_apply (p s₁ s₂ : FVec Ideal s .f32) (r : FVec Ideal s .bf16) (j : s.Idx) :
    vout p s₁ s₂ r j = p j * s₁ j * s₂ j + r j := rfl

end Cert.Vectors

end
-- ==== Proof.KernelBlock.lean ====
/-
  WHAT ONE GRID POINT OF THE KERNEL LEAVES in its three output blocks, element by element: the row functions of Rows.lean
  at the rows of the point's block of activations.
-/
module

public import proofs.«01_k».proof.Proof.Rows
public import proofs.«01_k».proof.Proof.Vectors
public import proofs.«01_k».proof.Proof.Gen.KernelIdeal.Frame

@[expose] public section

set_option maxRecDepth 16384

noncomputable section

namespace Cert.KernelIdeal.Block

open Cert.KernelIdeal Cert.KernelIdeal.Gen
open Idealize.ShloMosaic Idealize.ShloMosaic.ValueIdx
open scoped BigOperators

/-- Row `i` of a block of activations. -/
abbrev row (x0 : Vec Ideal S256x2048 .bf16) (i : Fin 256) : Fin 2048 → EReal := fun k => x0 (ix2 i k)

variable (x0 : Vec Ideal S256x2048 .bf16) (x1 : Vec Ideal S2048x4608 .fp8e4m3) (x2 : Vec Ideal S1x4608 .f32)
  (x3 : Vec Ideal S256x4608 .bf16)

theorem hz : (![0, 0] : Fin 2 → Nat) = fun _ => 0 := funext fun a => by fin_cases a <;> rfl

/-- The activations, widened: at the ideal instance the same values. -/
theorem pay2_eq : k0_pay2 x0 = x0 := by
  unfold k0_pay2
  rw [shapeCast_self]
  rfl

/-- The column of row maxima. -/
theorem pay3_apply (i : Fin 256) (u : Fin 1) : k0_pay3 x0 (ix2 i u) = Rows.rowMax (row x0 i) := by
  unfold k0_pay3
  dsimp only
  rw [pay2_eq]
  exact Rows.rowMax_apply (v := x0) _ _ _ _ i u

/-- The column of scaled row maxima. -/
theorem pay4_apply (i : Fin 256) (u : Fin 1) : k0_pay4 x0 (ix2 i u) = Rows.scaled (row x0 i) := by
  have h : k0_pay4 x0 = Vectors.vscale (k0_pay3 x0) 0x3B124925#32 := rfl
  rw [h, Vectors.vscale_apply, pay3_apply]
  rfl

/-- The search after two comparisons. -/
theorem pay5_apply (j : S256x1.Idx) : k0_pay5 x0 j = Scale.search2 (k0_pay4 x0 j) := by
  have h : k0_pay5 x0 = Vectors.vprobe (k0_pay4 x0)
      (Vectors.vprobe (k0_pay4 x0) (broadcast S256x1 4294967171#32) 128#32 127#32) 64#32 63#32 := rfl
  rw [h, Vectors.vprobe_apply, Vectors.vprobe_apply]
  generalize k0_pay4 x0 j = a
  rfl

/-- After five comparisons. -/
theorem pay7_apply (a : FVec Ideal S256x1 .f32) (e : IVec S256x1 32) (j : S256x1.Idx) :
    k0_pay7 a e (addi e (broadcast S256x1 31#32)) j
      = Scale.probe (a j) (Scale.probe (a j) (Scale.probe (a j) (e j) 32#32 31#32) 16#32 15#32) 8#32 7#32 := rfl

/-- After seven comparisons. -/
theorem pay8_apply (a : FVec Ideal S256x1 .f32) (e : IVec S256x1 32) (j : S256x1.Idx) :
    k0_pay8 a e j = Scale.probe (a j) (Scale.probe (a j) (e j) 4#32 3#32) 2#32 1#32 := rfl

/-- The eighth comparison's outcome. -/
theorem pay9_apply (a : FVec Ideal S256x1 .f32) (e : IVec S256x1 32) (j : S256x1.Idx) :
    k0_pay9 a e j = Ideal.cmp .oge (a j) (Scale.pow (IntOp.addi (k0_pay8 a e j) 0#32)) := rfl

/-- The exponent kept: the search's where in range, zero elsewhere. -/
theorem pay10_apply (mx a : FVec Ideal S256x1 .f32) (e : IVec S256x1 32) (b : IVec S256x1 1) (j : S256x1.Idx) :
    k0_pay10 mx a e b 1#32 j
      = Scalar.select (Ideal.cmp .oeq (mx j) (Ideal.ofBits .f32 0x00000000#32)) 0#32
          (Scalar.select (Scale.inRange (a j)) (Scalar.select (b j) (IntOp.addi (e j) 1#32) (e j)) 0#32) := rfl

/-- The exponents of the block's rows. -/
theorem exp_apply (i : Fin 256) (u : Fin 1) :
    k0_pay10 (k0_pay13 x0 x1 x2 x3) (k0_pay14 x0 x1 x2 x3) (k0_pay16 x0 x1 x2 x3) (k0_pay17 x0 x1 x2 x3) 1#32 (ix2 i u)
      = Scale.kernelExp (Rows.rowMax (row x0 i)) (Rows.scaled (row x0 i)) := by
  have e13 : k0_pay13 x0 x1 x2 x3 (ix2 i u) = Rows.rowMax (row x0 i) := by
    unfold k0_pay13
    rw [View.ld_unit_zero hz, pay3_apply]
  have e14 : k0_pay14 x0 x1 x2 x3 (ix2 i u) = Rows.scaled (row x0 i) := by
    unfold k0_pay14
    rw [View.ld_unit_zero hz, pay4_apply]
  have e15 : k0_pay15 x0 x1 x2 x3 (ix2 i u) = Scale.search5 (Rows.scaled (row x0 i)) := by
    unfold k0_pay15
    rw [View.ld_unit_zero hz]
    show k0_pay7 (k0_pay14 x0 x1 x2 x3) (k0_pay5 x0) (addi (k0_pay5 x0) (broadcast S256x1 31#32)) (ix2 i u) = _
    rw [pay7_apply, pay5_apply, e14, pay4_apply]
    rfl
  rw [pay10_apply, e13, e14]
  unfold k0_pay17 k0_pay16
  rw [pay9_apply, pay8_apply, e14, e15]
  rfl

/-- The scales of the block's rows. -/
theorem pay18_apply (i : Fin 256) (u : Fin 1) : k0_pay18 x0 x1 x2 x3 (ix2 i u) = Rows.scaleAt (row x0 i) := by
  rw [← Rows.scaleAt_eq, ← exp_apply x0 x1 x2 x3 i u]
  rfl

/-- The codes, from the exponents. -/
theorem pay12_apply (x : FVec Ideal S256x2048 .f32) (mx a : FVec Ideal S256x1 .f32) (e : IVec S256x1 32) (b : IVec S256x1 1)
    (i : Fin 256) (k : Fin 2048) :
    k0_pay12 x mx a e b 1#32 (ix2 i k)
      = min (Ideal.ofBits .f32 0x43E00000#32) (max (Ideal.ofBits .f32 0xC3E00000#32)
          (x (ix2 i k) * Scale.pow (IntOp.subi 0#32 (k0_pay10 mx a e b 1#32 (ix2 i 0))))) := by
  refine congrArg (min _) (congrArg (max _) (congrArg (x (ix2 i k) * ·) ?_))
  exact Rows.col_apply (by decide) _ broadcasts_S256x1_S256x2048 i k

/-- The codes of the block's rows. -/
theorem pay19_apply (i : Fin 256) (k : Fin 2048) : k0_pay19 x0 x1 x2 x3 (ix2 i k) = Rows.codeAt (row x0 i) k := by
  unfold k0_pay19
  rw [pay12_apply, exp_apply, Rows.invAt_eq, View.ld_unit_zero hz, pay2_eq]
  rfl

/-- The product, scaled, onto the residual. -/
theorem pay1_apply (s : FVec Ideal S256x1 .f32) (q : FVec Ideal S256x2048 .fp8e4m3) (i : Fin 256) (j : Fin 4608) :
    k0_pay1 s q x1 x2 x3 (ix2 i j)
      = (Ideal.ofBits .f32 0x00000000#32 + ∑ k : Fin 2048, q (ix2 i k) * x1 (ix2 k j)) * s (ix2 i 0) * x2 (ix2 0 j)
          + x3 (ix2 i j) := by
  have h : k0_pay1 s q x1 x2 x3
      = Vectors.vout (matmul dot_S256x2048_S2048x4608_S256x4608_1_0_0_1_n_n none q x1 (constant S256x4608 .f32 0x00000000#32))
          (broadcastTo S256x4608 s broadcasts_S256x1_S256x4608)
          (broadcastTo S256x4608 (shapeCast S1x4608 x2 shapeCasts_S1x4608_S1x4608) broadcasts_S1x4608_S256x4608)
          (shapeCast S256x4608 x3 shapeCasts_S256x4608_S256x4608) := rfl
  rw [h, Vectors.vout_apply, shapeCast_self, shapeCast_self]
  have e1 : matmul (φ₂ := .fp8e4m3) dot_S256x2048_S2048x4608_S256x4608_1_0_0_1_n_n none q x1 (constant S256x4608 .f32 0x00000000#32) (ix2 i j)
      = Ideal.ofBits .f32 0x00000000#32 + ∑ k : Fin 2048, q (ix2 i k) * x1 (ix2 k j) :=
    Ideal.matmul_plain_apply (φ₂ := .fp8e4m3) (M := 256) (K := 2048) (N := 4608) none q x1 _ i j
  have e2 : broadcastTo S256x4608 s broadcasts_S256x1_S256x4608 (ix2 i j) = s (ix2 i 0) :=
    Rows.col_apply (by decide) _ _ i j
  have e3 : broadcastTo S256x4608 x2 broadcasts_S1x4608_S256x4608 (ix2 i j) = x2 (ix2 0 j) :=
    Rows.row_apply (by decide) _ _ i j
  rw [e1, e2, e3]

/-- The first output block. -/
theorem out4_apply (i : Fin 256) (j : Fin 4608) :
    out0_4 x0 x1 x2 x3 (ix2 i j) = Rows.outAt (row x0 i) (fun k => x1 (ix2 k j)) (x2 (ix2 0 j)) (x3 (ix2 i j)) := by
  unfold out0_4
  rw [View.canon_unit_zero hz, View.ld_unit_zero hz, View.ld_unit_zero hz, View.ld_unit_zero hz, pay1_apply, pay18_apply]
  simp only [pay19_apply]
  rfl

/-- The second output block: the codes. -/
theorem out5_apply (i : Fin 256) (k : Fin 2048) : out0_5 x0 x1 x2 x3 (ix2 i k) = Rows.codeAt (row x0 i) k := by
  unfold out0_5
  rw [View.canon_unit_zero hz, pay19_apply]

/-- The third output block: the scales. -/
theorem out6_apply (i : Fin 256) (u : Fin 1) : out0_6 x0 x1 x2 x3 (ix2 i u) = Rows.scaleAt (row x0 i) := by
  unfold out0_6
  rw [View.canon_unit_zero hz, pay18_apply]

end Cert.KernelIdeal.Block

end
-- ==== Proof.KernelArrays.lean ====
/-
  THE KERNEL'S THREE RESULT ARRAYS: point `t` writes rows `256 t` to `256 t + 255`, the 72 points' blocks fill each array,
  so each array is one function of the arrays the launch finds.
-/
module

public import proofs.«01_k».proof.Proof.Whole
public import proofs.«01_k».proof.Proof.KernelBlock
public import proofs.«01_k».proof.Proof.Gen.KernelIdeal.Value

@[expose] public section

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The activations the launch finds. -/
abbrev x : S18432x2048.Idx → EReal := V m c main_v0
/-- The weights' codes. -/
abbrev w : S2048x4608.Idx → EReal := V m c main_arg1
/-- The weights' scales. -/
abbrev ws : S1x4608.Idx → EReal := V m c main_v1
/-- The residual. -/
abbrev r : S18432x4608.Idx → EReal := V m c main_v2

/-- Where each window's block lies at each point (decided over the 72 points). -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem lt_of_point (t : Fin cfg0.N) (i : Fin 256) : t.val * 256 + i.val < 18432 := by
  have h : t.val < 72 := t.isLt
  omega

/-- The array's row that is row `i` of point `t`'s block. -/
def at_ (t : Fin cfg0.N) (i : Fin 256) : Fin 18432 := ⟨t.val * 256 + i.val, lt_of_point t i⟩

theorem emb0 (t : Fin cfg0.N) (i : Fin 256) (k : Fin 2048) :
    (win0_0.rect t).emb (ix2 i k : S256x2048.Idx) = (ix2 (at_ t i) k : S18432x2048.Idx) := by
  funext a; apply Fin.ext
  match a with
  | ⟨0, _⟩ => exact (win0_0.rect_emb_val t (ix2 i k : S256x2048.Idx) 0).trans (by rw [(idx0 t).1]; rfl)
  | ⟨1, _⟩ => exact win0_0.rect_emb_val_of_index_zero t 1 (idx0 t).2 (ix2 i k : S256x2048.Idx)

theorem emb1 (t : Fin cfg0.N) (k : Fin 2048) (j : Fin 4608) :
    (win0_1.rect t).emb (ix2 k j : S2048x4608.Idx) = (ix2 k j : S2048x4608.Idx) := by
  funext a; apply Fin.ext
  match a with
  | ⟨0, _⟩ => exact win0_1.rect_emb_val_of_index_zero t 0 (idx1 t).1 (ix2 k j : S2048x4608.Idx)
  | ⟨1, _⟩ => exact win0_1.rect_emb_val_of_index_zero t 1 (idx1 t).2 (ix2 k j : S2048x4608.Idx)

theorem emb2 (t : Fin cfg0.N) (u : Fin 1) (j : Fin 4608) :
    (win0_2.rect t).emb (ix2 u j : S1x4608.Idx) = (ix2 u j : S1x4608.Idx) := by
  funext a; apply Fin.ext
  match a with
  | ⟨0, _⟩ => exact win0_2.rect_emb_val_of_index_zero t 0 (idx2 t).1 (ix2 u j : S1x4608.Idx)
  | ⟨1, _⟩ => exact win0_2.rect_emb_val_of_index_zero t 1 (idx2 t).2 (ix2 u j : S1x4608.Idx)

theorem emb3 (t : Fin cfg0.N) (i : Fin 256) (j : Fin 4608) :
    (win0_3.rect t).emb (ix2 i j : S256x4608.Idx) = (ix2 (at_ t i) j : S18432x4608.Idx) := by
  funext a; apply Fin.ext
  match a with
  | ⟨0, _⟩ => exact (win0_3.rect_emb_val t (ix2 i j : S256x4608.Idx) 0).trans (by rw [(idx3 t).1]; rfl)
  | ⟨1, _⟩ => exact win0_3.rect_emb_val_of_index_zero t 1 (idx3 t).2 (ix2 i j : S256x4608.Idx)

theorem emb4 (t : Fin cfg0.N) (i : Fin 256) (j : Fin 4608) :
    (win0_4.rect t).emb (ix2 i j : S256x4608.Idx) = (ix2 (at_ t i) j : S18432x4608.Idx) := by
  funext a; apply Fin.ext
  match a with
  | ⟨0, _⟩ => exact (win0_4.rect_emb_val t (ix2 i j : S256x4608.Idx) 0).trans (by rw [(idx4 t).1]; rfl)
  | ⟨1, _⟩ => exact win0_4.rect_emb_val_of_index_zero t 1 (idx4 t).2 (ix2 i j : S256x4608.Idx)

theorem emb5 (t : Fin cfg0.N) (i : Fin 256) (k : Fin 2048) :
    (win0_5.rect t).emb (ix2 i k : S256x2048.Idx) = (ix2 (at_ t i) k : S18432x2048.Idx) := by
  funext a; apply Fin.ext
  match a with
  | ⟨0, _⟩ => exact (win0_5.rect_emb_val t (ix2 i k : S256x2048.Idx) 0).trans (by rw [(idx5 t).1]; rfl)
  | ⟨1, _⟩ => exact win0_5.rect_emb_val_of_index_zero t 1 (idx5 t).2 (ix2 i k : S256x2048.Idx)

theorem emb6 (t : Fin cfg0.N) (i : Fin 256) (u : Fin 1) :
    (win0_6.rect t).emb (ix2 i u : S256x1.Idx) = (ix2 (at_ t i) u : S18432x1.Idx) := by
  funext a; apply Fin.ext
  match a with
  | ⟨0, _⟩ => exact (win0_6.rect_emb_val t (ix2 i u : S256x1.Idx) 0).trans (by rw [(idx6 t).1]; rfl)
  | ⟨1, _⟩ => exact win0_6.rect_emb_val_of_index_zero t 1 (idx6 t).2 (ix2 i u : S256x1.Idx)

/-- Row `i` of the block of activations is that row of the array. -/
theorem row_eq (t : Fin cfg0.N) (i : Fin 256) : Block.row (iblk m c 0 t) i = fun k => x m c (ix2 (at_ t i) k) :=
  funext fun k => congrArg (x m c) (emb0 t i k)

/-- The weights' block is the whole array, -/
theorem w_eq (t : Fin cfg0.N) (k : Fin 2048) (j : Fin 4608) : iblk m c 1 t (ix2 k j : S2048x4608.Idx) = w m c (ix2 k j) :=
  congrArg (w m c) (emb1 t k j)

/-- and so is their scales'. -/
theorem ws_eq (t : Fin cfg0.N) (u : Fin 1) (j : Fin 4608) : iblk m c 2 t (ix2 u j : S1x4608.Idx) = ws m c (ix2 u j) :=
  congrArg (ws m c) (emb2 t u j)

/-- The residual's block is the point's rows. -/
theorem r_eq (t : Fin cfg0.N) (i : Fin 256) (j : Fin 4608) :
    iblk m c 3 t (ix2 i j : S256x4608.Idx) = r m c (ix2 (at_ t i) j) :=
  congrArg (r m c) (emb3 t i j)

/-- Point `t` writes its block of the first result, -/
theorem flushed4_eq (t : Fin cfg0.N) :
    (dats m 0 c).flushed 4 t
      = ((cfg0.win 4).blk t).view.read (Elt Ideal) (Whole.out (x m c) (w m c) (ws m c) (r m c)) := by
  rw [Value.flushed4]
  refine funext fun (y : S256x4608.Idx) => ?_
  show out0_4 (iblk m c 0 t) (iblk m c 1 t) (iblk m c 2 t) (iblk m c 3 t) y
    = Whole.out (x m c) (w m c) (ws m c) (r m c) ((win0_4.rect t).emb y)
  obtain ⟨i, j, rfl⟩ : ∃ (i : Fin 256) (j : Fin 4608), y = ix2 i j := ⟨y 0, y 1, eq_ix2 y⟩
  rw [emb4, Block.out4_apply, row_eq]
  simp only [w_eq, ws_eq, r_eq]
  rfl

/-- of the second, -/
theorem flushed5_eq (t : Fin cfg0.N) :
    (dats m 0 c).flushed 5 t = ((cfg0.win 5).blk t).view.read (Elt Ideal) (Whole.codes (x m c)) := by
  rw [Value.flushed5]
  refine funext fun (y : S256x2048.Idx) => ?_
  show out0_5 (iblk m c 0 t) (iblk m c 1 t) (iblk m c 2 t) (iblk m c 3 t) y
    = Whole.codes (x m c) ((win0_5.rect t).emb y)
  obtain ⟨i, k, rfl⟩ : ∃ (i : Fin 256) (k : Fin 2048), y = ix2 i k := ⟨y 0, y 1, eq_ix2 y⟩
  rw [emb5, Block.out5_apply, row_eq]
  rfl

/-- and of the third. -/
theorem flushed6_eq (t : Fin cfg0.N) :
    (dats m 0 c).flushed 6 t = ((cfg0.win 6).blk t).view.read (Elt Ideal) (Whole.scales (x m c)) := by
  rw [Value.flushed6]
  refine funext fun (y : S256x1.Idx) => ?_
  show out0_6 (iblk m c 0 t) (iblk m c 1 t) (iblk m c 2 t) (iblk m c 3 t) y
    = Whole.scales (x m c) ((win0_6.rect t).emb y)
  obtain ⟨i, u, rfl⟩ : ∃ (i : Fin 256) (u : Fin 1), y = ix2 i u := ⟨y 0, y 1, eq_ix2 y⟩
  rw [emb6, Block.out6_apply, row_eq]
  rfl

/-- A row of the arrays is row `i` of point `t`'s block, for some `t` and `i`. -/
theorem at_surj (a : Fin 18432) : ∃ (t : Fin cfg0.N) (i : Fin 256), a = at_ t i := by
  have ht : a.val / 256 < cfg0.N := by
    show a.val / 256 < 72
    omega
  exact ⟨⟨a.val / 256, ht⟩, ⟨a.val % 256, by omega⟩, Fin.ext (by show a.val = a.val / 256 * 256 + a.val % 256; omega)⟩

/-- The blocks of the first result fill it, -/
theorem cover4 (j : S18432x4608.Idx) :
    ∃ t : Fin cfg0.N, (cfg0.win 4).flush t = true ∧ j ∈ ((cfg0.win 4).blk t).view.set := by
  obtain ⟨t, i, h⟩ := at_surj (j 0)
  refine ⟨t, flush0_4 t, ?_⟩
  have e : ((cfg0.win 4).blk t).view.emb (ix2 i (j 1) : S256x4608.Idx) = j :=
    (emb4 t i (j 1)).trans (by rw [← h]; exact (eq_ix2 j).symm)
  exact e ▸ View.emb_mem_set _ _

/-- of the second, -/
theorem cover5 (j : S18432x2048.Idx) :
    ∃ t : Fin cfg0.N, (cfg0.win 5).flush t = true ∧ j ∈ ((cfg0.win 5).blk t).view.set := by
  obtain ⟨t, i, h⟩ := at_surj (j 0)
  refine ⟨t, flush0_5 t, ?_⟩
  have e : ((cfg0.win 5).blk t).view.emb (ix2 i (j 1) : S256x2048.Idx) = j :=
    (emb5 t i (j 1)).trans (by rw [← h]; exact (eq_ix2 j).symm)
  exact e ▸ View.emb_mem_set _ _

/-- and of the third. -/
theorem cover6 (j : S18432x1.Idx) :
    ∃ t : Fin cfg0.N, (cfg0.win 6).flush t = true ∧ j ∈ ((cfg0.win 6).blk t).view.set := by
  obtain ⟨t, i, h⟩ := at_surj (j 0)
  refine ⟨t, flush0_6 t, ?_⟩
  have e : ((cfg0.win 6).blk t).view.emb (ix2 i (j 1) : S256x1.Idx) = j :=
    (emb6 t i (j 1)).trans (by rw [← h]; exact (eq_ix2 j).symm)
  exact e ▸ View.emb_mem_set _ _

/-- The first result array, -/
theorem final4 : (dats m 0 c).arrAt 4 cfg0.N = Whole.out (x m c) (w m c) (ws m c) (r m c) :=
  (dats m 0 c).arrAt_eq_of_cover 4 (Whole.out (x m c) (w m c) (ws m c) (r m c)) (fun t _ => flushed4_eq m c t) cover4

/-- the second, -/
theorem final5 : (dats m 0 c).arrAt 5 cfg0.N = Whole.codes (x m c) :=
  (dats m 0 c).arrAt_eq_of_cover 5 (Whole.codes (x m c)) (fun t _ => flushed5_eq m c t) cover5

/-- and the third. -/
theorem final6 : (dats m 0 c).arrAt 6 cfg0.N = Whole.scales (x m c) :=
  (dats m 0 c).arrAt_eq_of_cover 6 (Whole.scales (x m c)) (fun t _ => flushed6_eq m c t) cover6

end Cert.KernelIdeal.Arrays

end
-- ==== Proof.ReferenceBlock.lean ====
/-
  WHAT THE REFERENCE LEAVES in its three output arrays, element by element: the row functions of Rows.lean at the rows of
  the whole matrix of activations (the reference has one grid point, whose blocks are the whole arrays).
-/
module

public import proofs.«01_k».proof.Proof.Rows
public import proofs.«01_k».proof.Proof.Vectors
public import proofs.«01_k».proof.Proof.Gen.ReferenceIdeal.Frame

@[expose] public section

set_option maxRecDepth 65536

noncomputable section

namespace Cert.ReferenceIdeal.Block

open Cert.ReferenceIdeal Cert.ReferenceIdeal.Gen
open Idealize.ShloMosaic Idealize.ShloMosaic.ValueIdx
open scoped BigOperators

/-- Row `i` of the activations. -/
abbrev row (x0 : Vec Ideal S18432x2048 .bf16) (i : Fin 18432) : Fin 2048 → EReal := fun k => x0 (ix2 i k)

variable (x0 : Vec Ideal S18432x2048 .bf16) (x1 : Vec Ideal S2048x4608 .fp8e4m3) (x2 : Vec Ideal S1x4608 .f32)
  (x3 : Vec Ideal S18432x4608 .bf16)

theorem hz : (![0, 0] : Fin 2 → Nat) = fun _ => 0 := funext fun a => by fin_cases a <;> rfl

/-- The activations, widened: at the ideal instance the same values. -/
theorem pay3_eq : k0_pay3 x0 = x0 := by
  unfold k0_pay3
  rw [shapeCast_self]
  rfl

/-- The column of row maxima. -/
abbrev maxes (x : FVec Ideal S18432x2048 .f32) : FVec Ideal S18432x1 .f32 :=
  shapeCast S18432x1
    (multiReduction .maximumf [1] S18432 (absf x) 0xFF800000#32 reduces_S18432x2048_S18432 (.inl rfl) rfl)
    shapeCasts_S18432_S18432x1

/-- The exponents of the rows. -/
theorem pay4_apply (i : Fin 18432) (u : Fin 1) : k0_pay4 x0 (ix2 i u) = Scale.refExp (Rows.scaled (row x0 i)) := by
  have h : k0_pay4 x0 = Vectors.vexp (Vectors.vscale (maxes (k0_pay3 x0)) 0x3B124925#32) := rfl
  have e : maxes x0 (ix2 i u) = Rows.rowMax (row x0 i) :=
    Rows.rowMax_apply (v := x0) reduces_S18432x2048_S18432 (.inl rfl) rfl shapeCasts_S18432_S18432x1 i u
  rw [h, pay3_eq, Vectors.vexp_apply, Vectors.vscale_apply, e]
  rfl

/-- The scales of the rows. -/
theorem pay5_apply (i : Fin 18432) (u : Fin 1) : k0_pay5 x0 (ix2 i u) = Rows.scaleAt (row x0 i) := by
  have h : k0_pay5 x0 = Vectors.vpow2 (k0_pay4 x0) := rfl
  rw [h, Vectors.vpow2_apply, pay4_apply]
  rfl

/-- The inverse scales of the rows. -/
theorem pay6_apply (i : Fin 18432) (u : Fin 1) : k0_pay6 x0 (ix2 i u) = Rows.invAt (row x0 i) := by
  have h : k0_pay6 x0 = Vectors.vpow2 (Vectors.vneg (k0_pay4 x0)) := rfl
  rw [h, Vectors.vpow2_apply, Vectors.vneg_apply, pay4_apply]
  rfl

/-- The codes of the rows. -/
theorem pay1_apply (i : Fin 18432) (k : Fin 2048) : k0_pay1 x0 (k0_pay6 x0) (ix2 i k) = Rows.codeAt (row x0 i) k := by
  have h : k0_pay1 x0 (k0_pay6 x0)
      = Vectors.vclip x0 (broadcastTo S18432x2048 (k0_pay6 x0) broadcasts_S18432x1_S18432x2048) := rfl
  have e : broadcastTo S18432x2048 (k0_pay6 x0) broadcasts_S18432x1_S18432x2048 (ix2 i k) = k0_pay6 x0 (ix2 i 0) :=
    Rows.col_apply (by decide) _ _ i k
  rw [h, Vectors.vclip_apply, e, pay6_apply]
  rfl

/-- The product, scaled, onto the residual. -/
theorem pay2_apply (s t : FVec Ideal S18432x1 .f32) (x : FVec Ideal S18432x2048 .f32) (i : Fin 18432) (j : Fin 4608) :
    k0_pay2 x s t x1 x2 x3 (ix2 i j)
      = (Ideal.ofBits .f32 0x00000000#32 + ∑ k : Fin 2048, k0_pay1 x t (ix2 i k) * x1 (ix2 k j)) * s (ix2 i 0) * x2 (ix2 0 j)
          + x3 (ix2 i j) := by
  have h : k0_pay2 x s t x1 x2 x3
      = Vectors.vout (matmul dot_S18432x2048_S2048x4608_S18432x4608_1_0_0_1_n_n none (k0_pay1 x t) x1
            (constant S18432x4608 .f32 0x00000000#32))
          (broadcastTo S18432x4608 s broadcasts_S18432x1_S18432x4608)
          (broadcastTo S18432x4608 (shapeCast S1x4608 x2 shapeCasts_S1x4608_S1x4608) broadcasts_S1x4608_S18432x4608)
          (shapeCast S18432x4608 x3 shapeCasts_S18432x4608_S18432x4608) := rfl
  rw [h, Vectors.vout_apply, shapeCast_self, shapeCast_self]
  generalize k0_pay1 x t = q
  have e1 : matmul (φ₂ := .fp8e4m3) dot_S18432x2048_S2048x4608_S18432x4608_1_0_0_1_n_n none q x1
        (constant S18432x4608 .f32 0x00000000#32) (ix2 i j)
      = Ideal.ofBits .f32 0x00000000#32 + ∑ k : Fin 2048, q (ix2 i k) * x1 (ix2 k j) :=
    Ideal.matmul_plain_apply (φ₂ := .fp8e4m3) (M := 18432) (K := 2048) (N := 4608) none q x1 _ i j
  have e2 : broadcastTo S18432x4608 s broadcasts_S18432x1_S18432x4608 (ix2 i j) = s (ix2 i 0) :=
    Rows.col_apply (by decide) _ _ i j
  have e3 : broadcastTo S18432x4608 x2 broadcasts_S1x4608_S18432x4608 (ix2 i j) = x2 (ix2 0 j) :=
    Rows.row_apply (by decide) _ _ i j
  rw [e1, e2, e3]

/-- The first output. -/
theorem out4_apply (i : Fin 18432) (j : Fin 4608) :
    out0_4 x0 x1 x2 x3 (ix2 i j) = Rows.outAt (row x0 i) (fun k => x1 (ix2 k j)) (x2 (ix2 0 j)) (x3 (ix2 i j)) := by
  unfold out0_4 k0_pay7 k0_pay8 k0_pay9
  rw [View.canon_unit_zero hz, View.ld_unit_zero hz, View.ld_unit_zero hz, View.ld_unit_zero hz, View.ld_unit_zero hz,
    pay2_apply, pay5_apply, pay3_eq]
  simp only [pay1_apply]
  rfl

/-- The second output: the codes. -/
theorem out5_apply (i : Fin 18432) (k : Fin 2048) : out0_5 x0 x1 x2 x3 (ix2 i k) = Rows.codeAt (row x0 i) k := by
  unfold out0_5 k0_pay7 k0_pay9
  rw [View.canon_unit_zero hz, View.ld_unit_zero hz, pay3_eq, pay1_apply]

/-- The third output: the scales. -/
theorem out6_apply (i : Fin 18432) (u : Fin 1) : out0_6 x0 x1 x2 x3 (ix2 i u) = Rows.scaleAt (row x0 i) := by
  unfold out0_6 k0_pay8
  rw [View.canon_unit_zero hz, View.ld_unit_zero hz, pay5_apply]

end Cert.ReferenceIdeal.Block

end
-- ==== Proof.ReferenceArrays.lean ====
/-
  THE REFERENCE'S THREE RESULT ARRAYS: its one point's blocks are the whole arrays.
-/
module

public import proofs.«01_k».proof.Proof.Whole
public import proofs.«01_k».proof.Proof.ReferenceBlock
public import proofs.«01_k».proof.Proof.Gen.ReferenceIdeal.Value

@[expose] public section

set_option maxRecDepth 16384

noncomputable section

namespace Cert.ReferenceIdeal.Arrays

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The activations the launch finds. -/
abbrev x : S18432x2048.Idx → EReal := V m c main_v0
/-- The weights' codes. -/
abbrev w : S2048x4608.Idx → EReal := V m c main_arg1
/-- The weights' scales. -/
abbrev ws : S1x4608.Idx → EReal := V m c main_v1
/-- The residual. -/
abbrev r : S18432x4608.Idx → EReal := V m c main_v2

/-- Every window's block lies at the origin. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem emb0 (t : Fin cfg0.N) (i : Fin 18432) (j : Fin 2048) :
    (win0_0.rect t).emb (ix2 i j : S18432x2048.Idx) = (ix2 i j : S18432x2048.Idx) := by
  funext a; apply Fin.ext
  match a with
  | ⟨0, _⟩ => exact win0_0.rect_emb_val_of_index_zero t 0 (idx0 t).1 (ix2 i j : S18432x2048.Idx)
  | ⟨1, _⟩ => exact win0_0.rect_emb_val_of_index_zero t 1 (idx0 t).2 (ix2 i j : S18432x2048.Idx)

theorem emb1 (t : Fin cfg0.N) (i : Fin 2048) (j : Fin 4608) :
    (win0_1.rect t).emb (ix2 i j : S2048x4608.Idx) = (ix2 i j : S2048x4608.Idx) := by
  funext a; apply Fin.ext
  match a with
  | ⟨0, _⟩ => exact win0_1.rect_emb_val_of_index_zero t 0 (idx1 t).1 (ix2 i j : S2048x4608.Idx)
  | ⟨1, _⟩ => exact win0_1.rect_emb_val_of_index_zero t 1 (idx1 t).2 (ix2 i j : S2048x4608.Idx)

theorem emb2 (t : Fin cfg0.N) (i : Fin 1) (j : Fin 4608) :
    (win0_2.rect t).emb (ix2 i j : S1x4608.Idx) = (ix2 i j : S1x4608.Idx) := by
  funext a; apply Fin.ext
  match a with
  | ⟨0, _⟩ => exact win0_2.rect_emb_val_of_index_zero t 0 (idx2 t).1 (ix2 i j : S1x4608.Idx)
  | ⟨1, _⟩ => exact win0_2.rect_emb_val_of_index_zero t 1 (idx2 t).2 (ix2 i j : S1x4608.Idx)

theorem emb3 (t : Fin cfg0.N) (i : Fin 18432) (j : Fin 4608) :
    (win0_3.rect t).emb (ix2 i j : S18432x4608.Idx) = (ix2 i j : S18432x4608.Idx) := by
  funext a; apply Fin.ext
  match a with
  | ⟨0, _⟩ => exact win0_3.rect_emb_val_of_index_zero t 0 (idx3 t).1 (ix2 i j : S18432x4608.Idx)
  | ⟨1, _⟩ => exact win0_3.rect_emb_val_of_index_zero t 1 (idx3 t).2 (ix2 i j : S18432x4608.Idx)

theorem emb4 (t : Fin cfg0.N) (i : Fin 18432) (j : Fin 4608) :
    (win0_4.rect t).emb (ix2 i j : S18432x4608.Idx) = (ix2 i j : S18432x4608.Idx) := by
  funext a; apply Fin.ext
  match a with
  | ⟨0, _⟩ => exact win0_4.rect_emb_val_of_index_zero t 0 (idx4 t).1 (ix2 i j : S18432x4608.Idx)
  | ⟨1, _⟩ => exact win0_4.rect_emb_val_of_index_zero t 1 (idx4 t).2 (ix2 i j : S18432x4608.Idx)

theorem emb5 (t : Fin cfg0.N) (i : Fin 18432) (j : Fin 2048) :
    (win0_5.rect t).emb (ix2 i j : S18432x2048.Idx) = (ix2 i j : S18432x2048.Idx) := by
  funext a; apply Fin.ext
  match a with
  | ⟨0, _⟩ => exact win0_5.rect_emb_val_of_index_zero t 0 (idx5 t).1 (ix2 i j : S18432x2048.Idx)
  | ⟨1, _⟩ => exact win0_5.rect_emb_val_of_index_zero t 1 (idx5 t).2 (ix2 i j : S18432x2048.Idx)

theorem emb6 (t : Fin cfg0.N) (i : Fin 18432) (j : Fin 1) :
    (win0_6.rect t).emb (ix2 i j : S18432x1.Idx) = (ix2 i j : S18432x1.Idx) := by
  funext a; apply Fin.ext
  match a with
  | ⟨0, _⟩ => exact win0_6.rect_emb_val_of_index_zero t 0 (idx6 t).1 (ix2 i j : S18432x1.Idx)
  | ⟨1, _⟩ => exact win0_6.rect_emb_val_of_index_zero t 1 (idx6 t).2 (ix2 i j : S18432x1.Idx)

/-- The activations' rows. -/
theorem row_eq (t : Fin cfg0.N) (i : Fin 18432) : Block.row (iblk m c 0 t) i = fun k => x m c (ix2 i k) :=
  funext fun k => congrArg (x m c) (emb0 t i k)

theorem w_eq (t : Fin cfg0.N) (k : Fin 2048) (j : Fin 4608) : iblk m c 1 t (ix2 k j : S2048x4608.Idx) = w m c (ix2 k j) :=
  congrArg (w m c) (emb1 t k j)

theorem ws_eq (t : Fin cfg0.N) (u : Fin 1) (j : Fin 4608) : iblk m c 2 t (ix2 u j : S1x4608.Idx) = ws m c (ix2 u j) :=
  congrArg (ws m c) (emb2 t u j)

theorem r_eq (t : Fin cfg0.N) (i : Fin 18432) (j : Fin 4608) :
    iblk m c 3 t (ix2 i j : S18432x4608.Idx) = r m c (ix2 i j) :=
  congrArg (r m c) (emb3 t i j)

/-- The one point. -/
def pt : Fin cfg0.N := ⟨0, by show 0 < grid0.N; rw [N_0]; decide⟩

/-- Result 1: what the point writes, that it fills the array, and so the array. -/
theorem flushed4_eq (t : Fin cfg0.N) :
    (dats m 0 c).flushed 4 t = ((cfg0.win 4).blk t).view.read (Elt Ideal) (Whole.out (x m c) (w m c) (ws m c) (r m c)) := by
  rw [Value.flushed4]
  refine funext fun (y : S18432x4608.Idx) => ?_
  show out0_4 (iblk m c 0 t) (iblk m c 1 t) (iblk m c 2 t) (iblk m c 3 t) y
    = Whole.out (x m c) (w m c) (ws m c) (r m c) ((win0_4.rect t).emb y)
  obtain ⟨i, j, rfl⟩ : ∃ (i : Fin 18432) (j : Fin 4608), y = ix2 i j := ⟨y 0, y 1, eq_ix2 y⟩
  rw [emb4, Block.out4_apply, row_eq]
  simp only [w_eq, ws_eq, r_eq]
  rfl

theorem cover4 (j : S18432x4608.Idx) :
    ∃ t : Fin cfg0.N, (cfg0.win 4).flush t = true ∧ j ∈ ((cfg0.win 4).blk t).view.set := by
  refine ⟨pt, flush0_4 pt, ?_⟩
  have e : ((cfg0.win 4).blk pt).view.emb (ix2 (j 0) (j 1) : S18432x4608.Idx) = j :=
    (emb4 pt (j 0) (j 1)).trans (eq_ix2 j).symm
  exact e ▸ View.emb_mem_set _ _

theorem final4 : (dats m 0 c).arrAt 4 cfg0.N = Whole.out (x m c) (w m c) (ws m c) (r m c) :=
  (dats m 0 c).arrAt_eq_of_cover 4 (Whole.out (x m c) (w m c) (ws m c) (r m c)) (fun t _ => flushed4_eq m c t) cover4

/-- Result 2: what the point writes, that it fills the array, and so the array. -/
theorem flushed5_eq (t : Fin cfg0.N) :
    (dats m 0 c).flushed 5 t = ((cfg0.win 5).blk t).view.read (Elt Ideal) (Whole.codes (x m c)) := by
  rw [Value.flushed5]
  refine funext fun (y : S18432x2048.Idx) => ?_
  show out0_5 (iblk m c 0 t) (iblk m c 1 t) (iblk m c 2 t) (iblk m c 3 t) y
    = Whole.codes (x m c) ((win0_5.rect t).emb y)
  obtain ⟨i, j, rfl⟩ : ∃ (i : Fin 18432) (j : Fin 2048), y = ix2 i j := ⟨y 0, y 1, eq_ix2 y⟩
  rw [emb5, Block.out5_apply, row_eq]
  rfl

theorem cover5 (j : S18432x2048.Idx) :
    ∃ t : Fin cfg0.N, (cfg0.win 5).flush t = true ∧ j ∈ ((cfg0.win 5).blk t).view.set := by
  refine ⟨pt, flush0_5 pt, ?_⟩
  have e : ((cfg0.win 5).blk pt).view.emb (ix2 (j 0) (j 1) : S18432x2048.Idx) = j :=
    (emb5 pt (j 0) (j 1)).trans (eq_ix2 j).symm
  exact e ▸ View.emb_mem_set _ _

theorem final5 : (dats m 0 c).arrAt 5 cfg0.N = Whole.codes (x m c) :=
  (dats m 0 c).arrAt_eq_of_cover 5 (Whole.codes (x m c)) (fun t _ => flushed5_eq m c t) cover5

/-- Result 3: what the point writes, that it fills the array, and so the array. -/
theorem flushed6_eq (t : Fin cfg0.N) :
    (dats m 0 c).flushed 6 t = ((cfg0.win 6).blk t).view.read (Elt Ideal) (Whole.scales (x m c)) := by
  rw [Value.flushed6]
  refine funext fun (y : S18432x1.Idx) => ?_
  show out0_6 (iblk m c 0 t) (iblk m c 1 t) (iblk m c 2 t) (iblk m c 3 t) y
    = Whole.scales (x m c) ((win0_6.rect t).emb y)
  obtain ⟨i, j, rfl⟩ : ∃ (i : Fin 18432) (j : Fin 1), y = ix2 i j := ⟨y 0, y 1, eq_ix2 y⟩
  rw [emb6, Block.out6_apply, row_eq]
  rfl

theorem cover6 (j : S18432x1.Idx) :
    ∃ t : Fin cfg0.N, (cfg0.win 6).flush t = true ∧ j ∈ ((cfg0.win 6).blk t).view.set := by
  refine ⟨pt, flush0_6 pt, ?_⟩
  have e : ((cfg0.win 6).blk pt).view.emb (ix2 (j 0) (j 1) : S18432x1.Idx) = j :=
    (emb6 pt (j 0) (j 1)).trans (eq_ix2 j).symm
  exact e ▸ View.emb_mem_set _ _

theorem final6 : (dats m 0 c).arrAt 6 cfg0.N = Whole.scales (x m c) :=
  (dats m 0 c).arrAt_eq_of_cover 6 (Whole.scales (x m c)) (fun t _ => flushed6_eq m c t) cover6

end Cert.ReferenceIdeal.Arrays

end
-- ==== Proof.Agree.lean ====
/-
  THE TWO RUNS AGREE: both programs reshape their arguments alike before the launch, so from equal arguments their launches
  find equal arrays, and leave equal results.
-/
module

public import proofs.«01_k».proof.Defs
public import proofs.«01_k».proof.Proof.KernelArrays
public import proofs.«01_k».proof.Proof.ReferenceArrays

@[expose] public section

set_option maxRecDepth 16384

noncomputable section

namespace Cert.Agree

open Idealize.ShloMosaic Idealize.ShloMosaic.TcCoe Idealize.SL.Sem

section Kernel

open Cert.KernelIdeal Cert.KernelIdeal.Gen

variable (m : (ℓ : Loc nD τ sig) → Buf (Elt Ideal) ℓ) (c : Dev nD)

/-- What the kernel's launch finds: the arguments, reshaped. -/
theorem kernel_x : KernelIdeal.Arrays.x m c
    = shapeCast S18432x2048 (m ((c : Thread nD τ).loc main_arg0)) shapeCasts_S6x3072x2048_S18432x2048 := by
  show StableHlo.after hostOps0 (fun b => m (c, b)) (Proc.devRef .tc main_v0) = _
  after_results
  rfl
theorem kernel_ws : KernelIdeal.Arrays.ws m c
    = shapeCast S1x4608 (m ((c : Thread nD τ).loc main_arg2)) shapeCasts_S4608_S1x4608 := by
  show StableHlo.after hostOps0 (fun b => m (c, b)) (Proc.devRef .tc main_v1) = _
  after_results
  rfl
theorem kernel_r : KernelIdeal.Arrays.r m c
    = shapeCast S18432x4608 (m ((c : Thread nD τ).loc main_arg3)) shapeCasts_S6x3072x4608_S18432x4608 := by
  show StableHlo.after hostOps0 (fun b => m (c, b)) (Proc.devRef .tc main_v2) = _
  after_results
  rfl

end Kernel

section Reference

open Cert.ReferenceIdeal Cert.ReferenceIdeal.Gen

variable (m : (ℓ : Loc nD τ sig) → Buf (Elt Ideal) ℓ) (c : Dev nD)

/-- What the reference's launch finds: the arguments, reshaped. -/
theorem reference_x : ReferenceIdeal.Arrays.x m c
    = shapeCast S18432x2048 (m ((c : Thread nD τ).loc main_arg0)) shapeCasts_S6x3072x2048_S18432x2048 := by
  show StableHlo.after hostOps0 (fun b => m (c, b)) (Proc.devRef .tc main_v0) = _
  after_results
  rfl
theorem reference_ws : ReferenceIdeal.Arrays.ws m c
    = shapeCast S1x4608 (m ((c : Thread nD τ).loc main_arg2)) shapeCasts_S4608_S1x4608 := by
  show StableHlo.after hostOps0 (fun b => m (c, b)) (Proc.devRef .tc main_v1) = _
  after_results
  rfl
theorem reference_r : ReferenceIdeal.Arrays.r m c
    = shapeCast S18432x4608 (m ((c : Thread nD τ).loc main_arg3)) shapeCasts_S6x3072x4608_S18432x4608 := by
  show StableHlo.after hostOps0 (fun b => m (c, b)) (Proc.devRef .tc main_v2) = _
  after_results
  rfl

end Reference

/-- THE VALUE CLAIM: all three results. -/
theorem algebraic : Cert.algebraic_KernelIdeal_ReferenceIdeal := by
  intro m g m' g' _ hargs
  have hx : ∀ c, ReferenceIdeal.Arrays.x m' c = KernelIdeal.Arrays.x m c := fun c =>
    (reference_x m' c).trans ((congrArg (fun a => shapeCast _ a _) (hargs c).1).trans (kernel_x m c).symm)
  have hw : ∀ c, ReferenceIdeal.Arrays.w m' c = KernelIdeal.Arrays.w m c := fun c =>
    (ReferenceIdeal.Gen.V_main_arg1 m' c).trans ((hargs c).2.1.trans (KernelIdeal.Gen.V_main_arg1 m c).symm)
  have hws : ∀ c, ReferenceIdeal.Arrays.ws m' c = KernelIdeal.Arrays.ws m c := fun c =>
    (reference_ws m' c).trans ((congrArg (fun a => shapeCast _ a _) (hargs c).2.2.1).trans (kernel_ws m c).symm)
  have hr : ∀ c, ReferenceIdeal.Arrays.r m' c = KernelIdeal.Arrays.r m c := fun c =>
    (reference_r m' c).trans ((congrArg (fun a => shapeCast _ a _) (hargs c).2.2.2).trans (kernel_r m c).symm)
  refine ⟨fun c => Whole.out (KernelIdeal.Arrays.x m c) (KernelIdeal.Arrays.w m c) (KernelIdeal.Arrays.ws m c)
      (KernelIdeal.Arrays.r m c), fun c => Whole.codes (KernelIdeal.Arrays.x m c),
    fun c => Whole.scales (KernelIdeal.Arrays.x m c), ?_, ?_⟩
  · refine (θ_run Cert.KernelIdeal.defs _ _).mono (fun _ h c => ?_) (KernelIdeal.Value.run_blocks m g)
    obtain ⟨h4, h5, h6, h⟩ := h c
    exact ⟨h4.trans (KernelIdeal.Arrays.final4 m c), h5.trans (KernelIdeal.Arrays.final5 m c),
      h6.trans (KernelIdeal.Arrays.final6 m c), h⟩
  · refine (θ_run Cert.ReferenceIdeal.defs _ _).mono (fun _ h c => ?_) (ReferenceIdeal.Value.run_blocks m' g')
    obtain ⟨h4, h5, h6, h⟩ := h c
    refine ⟨h4.trans ((ReferenceIdeal.Arrays.final4 m' c).trans ?_), h5.trans ((ReferenceIdeal.Arrays.final5 m' c).trans ?_),
      h6.trans ((ReferenceIdeal.Arrays.final6 m' c).trans ?_), h⟩
    · rw [hx, hw, hws, hr]
    · rw [hx]
    · rw [hx]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The frames are the generated ones; the idealization rewrote nothing; the value claim is Agree.lean's. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Agree.algebraic⟩

end Cert.Proof

end
